-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16384 : Shape := ⟨3, ![8, 1, 16384]⟩
abbrev S8x1x32x64 : Shape := ⟨4, ![8, 1, 32, 64]⟩
abbrev S8x16384x512 : Shape := ⟨3, ![8, 16384, 512]⟩
abbrev S8x16384 : Shape := ⟨2, ![8, 16384]⟩
abbrev S8x16384x64 : Shape := ⟨3, ![8, 16384, 64]⟩
abbrev S8x32x512 : Shape := ⟨3, ![8, 32, 512]⟩
abbrev S8x32x64 : Shape := ⟨3, ![8, 32, 64]⟩
abbrev S1x32x512 : Shape := ⟨3, ![1, 32, 512]⟩
abbrev S1x32x64 : Shape := ⟨3, ![1, 32, 64]⟩
abbrev S1x2048x512 : Shape := ⟨3, ![1, 2048, 512]⟩
abbrev S1x1x2048 : Shape := ⟨3, ![1, 1, 2048]⟩
abbrev S1x2048x64 : Shape := ⟨3, ![1, 2048, 64]⟩
abbrev S32x1 : Shape := ⟨2, ![32, 1]⟩
abbrev S32x512 : Shape := ⟨2, ![32, 512]⟩
abbrev S2048x512 : Shape := ⟨2, ![2048, 512]⟩
abbrev S1x2048 : Shape := ⟨2, ![1, 2048]⟩
abbrev S32x2048 : Shape := ⟨2, ![32, 2048]⟩
abbrev S32x64 : Shape := ⟨2, ![32, 64]⟩
abbrev S2048x64 : Shape := ⟨2, ![2048, 64]⟩
abbrev S32 : Shape := ⟨1, ![32]⟩

abbrev nBuf : Space → Nat
  | .hbm => 9
  | .vmem => 15
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x64, .bf16⟩
  | .hbm, ⟨2, _⟩ => ⟨S8x16384x512, .fp8e4m3⟩
  | .hbm, ⟨3, _⟩ => ⟨S8x16384, .f32⟩
  | .hbm, ⟨4, _⟩ => ⟨S8x16384x64, .bf16⟩
  | .hbm, ⟨5, _⟩ => ⟨S8x32x512, .bf16⟩
  | .hbm, ⟨6, _⟩ => ⟨S8x32x64, .bf16⟩
  | .hbm, ⟨7, _⟩ => ⟨S8x1x16384, .f32⟩
  | .hbm, ⟨8, _⟩ => ⟨S8x32x512, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x64, .bf16⟩
  | .local _ .vmem, ⟨3, _⟩ => ⟨S1x32x64, .bf16⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S1x1x2048, .f32⟩
  | .local _ .vmem, ⟨7, _⟩ => ⟨S1x1x2048, .f32⟩
  | .local _ .vmem, ⟨8, _⟩ => ⟨S1x2048x64, .bf16⟩
  | .local _ .vmem, ⟨9, _⟩ => ⟨S1x2048x64, .bf16⟩
  | .local _ .vmem, ⟨10, _⟩ => ⟨S1x32x512, .bf16⟩
  | .local _ .vmem, ⟨11, _⟩ => ⟨S1x32x512, .bf16⟩
  | .local _ .vmem, ⟨12, _⟩ => ⟨S32x1, .f32⟩
  | .local _ .vmem, ⟨13, _⟩ => ⟨S32x1, .f32⟩
  | .local _ .vmem, ⟨14, _⟩ => ⟨S32x512, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x1x16384 : Shape := ⟨3, ![8, 1, 16384]⟩
abbrev S8x1x32x64 : Shape := ⟨4, ![8, 1, 32, 64]⟩
abbrev S8x16384x512 : Shape := ⟨3, ![8, 16384, 512]⟩
abbrev S8x16384 : Shape := ⟨2, ![8, 16384]⟩
abbrev S8x16384x64 : Shape := ⟨3, ![8, 16384, 64]⟩
abbrev S8x32x512 : Shape := ⟨3, ![8, 32, 512]⟩
abbrev S8x32x64 : Shape := ⟨3, ![8, 32, 64]⟩
abbrev S8x32x16384 : Shape := ⟨3, ![8, 32, 16384]⟩
abbrev S8x32 : Shape := ⟨2, ![8, 32]⟩
abbrev S8x32x1 : Shape := ⟨3, ![8, 32, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x64, .bf16⟩
  | .hbm, ⟨2, _⟩ => ⟨S8x16384x512, .fp8e4m3⟩
  | .hbm, ⟨3, _⟩ => ⟨S8x16384, .f32⟩
  | .hbm, ⟨4, _⟩ => ⟨S8x16384x64, .bf16⟩
  | .hbm, ⟨5, _⟩ => ⟨S8x32x512, .bf16⟩
  | .hbm, ⟨6, _⟩ => ⟨S8x32x64, .bf16⟩
  | .hbm, ⟨7, _⟩ => ⟨S8x1x16384, .f32⟩
  | .hbm, ⟨8, _⟩ => ⟨S8x32x512, .bf16⟩
  | .local _ .vmem, ⟨0, _⟩ => ⟨S8x32x512, .bf16⟩
  | .local _ .vmem, ⟨1, _⟩ => ⟨S8x32x64, .bf16⟩
  | .local _ .vmem, ⟨2, _⟩ => ⟨S8x16384x512, .fp8e4m3⟩
  | .local _ .vmem, ⟨3, _⟩ => ⟨S8x1x16384, .f32⟩
  | .local _ .vmem, ⟨4, _⟩ => ⟨S8x16384x64, .bf16⟩
  | .local _ .vmem, ⟨5, _⟩ => ⟨S8x32x512, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x32x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16384x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x16384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Online.lean ====
/-
  Softmax over a growing prefix of tokens, in the extended reals. No program occurs in this module.

  The tokens are numbered `0, 1, 2, …`; token `t` has a score `sc t`, a scale `w t` and a value `d t`. Over the first `n`
  tokens stand the largest score (`top`), the softmax denominator (`den`) and the numerator of the weighted mean (`num`),
  all with the usual subtraction of the largest score inside the exponential. The theorems of the last section say how
  the three change when `K` more tokens are appended: the old sums are multiplied by one factor and the new terms added.
  They hold at every extended real, infinite scores, scales and values included.
-/
module

public import Idealize.ShloMosaic.PureOps.Ideal

@[expose] public section

noncomputable section

namespace Cert.Online

open Idealize.ShloMosaic

/-! ## One softmax weight -/

/-- The weight of a score `x` against a bound `b`: the exponential of `x - b`. -/
def wt (x b : EReal) : EReal := Ideal.exp (x - b)

/-- The exponential of minus infinity is zero. -/
theorem exp_bot : Ideal.exp ⊥ = 0 := rfl
/-- The exponential of plus infinity is plus infinity. -/
theorem exp_top : Ideal.exp ⊤ = ⊤ := rfl
/-- On the reals the exponential is the real one. -/
theorem exp_coe (r : ℝ) : Ideal.exp (r : EReal) = ((Real.exp r : ℝ) : EReal) := rfl

/-- A score of minus infinity weighs nothing. -/
theorem wt_bot_left (b : EReal) : wt ⊥ b = 0 := by rw [wt, EReal.bot_sub, exp_bot]

/-- Against a bound of plus infinity every score weighs nothing. -/
theorem wt_top_right (x : EReal) : wt x ⊤ = 0 := by rw [wt, EReal.sub_top, exp_bot]

/-- The weight of a real score against a real bound. -/
theorem wt_coe (x b : ℝ) : wt (x : EReal) (b : EReal) = ((Real.exp (x - b) : ℝ) : EReal) := by
  rw [wt, ← EReal.coe_sub, exp_coe]

/-- A weight is not negative. -/
theorem wt_nonneg (x b : EReal) : 0 ≤ wt x b := by
  unfold wt
  induction x - b with
  | bot => exact le_of_eq exp_bot.symm
  | top => rw [exp_top]; exact le_top
  | coe r => rw [exp_coe]; exact_mod_cast (Real.exp_pos r).le

/-- A weight against an upper bound is not infinite. -/
theorem wt_ne_top {x b : EReal} (h : x ≤ b) : wt x b ≠ ⊤ := by
  induction b with
  | top => rw [wt_top_right]; exact EReal.zero_ne_top
  | bot => rw [le_bot_iff.mp h, wt_bot_left]; exact EReal.zero_ne_top
  | coe b =>
    induction x with
    | top => exact absurd (top_le_iff.mp h) (EReal.coe_ne_top b)
    | bot => rw [wt_bot_left]; exact EReal.zero_ne_top
    | coe x => rw [wt_coe]; exact EReal.coe_ne_top _

/-- Raising the bound from `a` to `b` multiplies the weight of every score up to `a` by the weight of `a` against `b`. -/
theorem wt_mul_wt {x a b : EReal} (hxa : x ≤ a) (hab : a ≤ b) : wt a b * wt x a = wt x b := by
  induction b with
  | top => rw [wt_top_right, wt_top_right, zero_mul]
  | bot => rw [le_bot_iff.mp hab] at hxa ⊢; rw [le_bot_iff.mp hxa, wt_bot_left, zero_mul]
  | coe b =>
    induction a with
    | top => exact absurd (top_le_iff.mp hab) (EReal.coe_ne_top b)
    | bot => rw [le_bot_iff.mp hxa, wt_bot_left, wt_bot_left, zero_mul]
    | coe a =>
      induction x with
      | top => exact absurd (top_le_iff.mp hxa) (EReal.coe_ne_top a)
      | bot => rw [wt_bot_left, wt_bot_left, mul_zero]
      | coe x =>
        rw [wt_coe, wt_coe, wt_coe, ← EReal.coe_mul, ← Real.exp_add]
        congr 2; ring

/-- A factor that is neither negative nor infinite distributes over a finite sum of extended reals. -/
theorem mul_sum {ι : Type} {q : EReal} (h0 : 0 ≤ q) (h1 : q ≠ ⊤) (s : Finset ι) (f : ι → EReal) :
    q * ∑ i ∈ s, f i = ∑ i ∈ s, q * f i := by
  classical
  induction s using Finset.induction_on with
  | empty => rw [Finset.sum_empty, Finset.sum_empty, mul_zero]
  | insert a s ha ih =>
    rw [Finset.sum_insert ha, Finset.sum_insert ha, EReal.left_distrib_of_nonneg_of_ne_top h0 h1, ih]

/-! ## The three running quantities over the first `n` tokens -/

variable (sc w d : ℕ → EReal)

/-- The largest score of the first `n` tokens (minus infinity for none). -/
def top (n : ℕ) : EReal := (Finset.range n).sup sc

/-- The softmax denominator of the first `n` tokens. -/
def den (n : ℕ) : EReal := ∑ t ∈ Finset.range n, wt (sc t) (top sc n)

/-- The numerator of the weighted mean of the first `n` tokens: weight times scale times value. -/
def num (n : ℕ) : EReal := ∑ t ∈ Finset.range n, wt (sc t) (top sc n) * w t * d t

/-- The largest score over no tokens is minus infinity. -/
theorem top_zero : top sc 0 = ⊥ := by rw [top, Finset.range_zero, Finset.sup_empty]
/-- The denominator over no tokens is zero. -/
theorem den_zero : den sc 0 = 0 := by rw [den, Finset.range_zero, Finset.sum_empty]
/-- The numerator over no tokens is zero. -/
theorem num_zero : num sc w d 0 = 0 := by rw [num, Finset.range_zero, Finset.sum_empty]

/-- Every score of the prefix is at most the largest. -/
theorem le_top_of_lt {n t : ℕ} (h : t < n) : sc t ≤ top sc n := Finset.le_sup (f := sc) (Finset.mem_range.mpr h)

/-! ## Appending `K` tokens -/

/-- The largest score after `K` more tokens is the larger of the old one and the largest of the new scores. -/
theorem top_add (n K : ℕ) :
    top sc (n + K) = max (top sc n) (Finset.univ.sup fun k : Fin K => sc (n + k.val)) := by
  refine le_antisymm (Finset.sup_le fun t ht => ?_) (max_le (Finset.sup_le fun t ht => ?_) (Finset.sup_le fun k _ => ?_))
  · have ht' := Finset.mem_range.mp ht
    by_cases h : t < n
    · exact (le_top_of_lt sc h).trans (le_max_left _ _)
    · have e : n + (t - n) = t := by omega
      refine le_trans ?_ (le_max_right _ _)
      have := Finset.le_sup (f := fun k : Fin K => sc (n + k.val)) (Finset.mem_univ ⟨t - n, by omega⟩)
      simp only [e] at this
      exact this
  · exact le_top_of_lt sc (by have := Finset.mem_range.mp ht; omega)
  · exact le_top_of_lt sc (by have := k.isLt; omega)

/-- The largest score does not fall when tokens are appended. -/
theorem top_le_top_add (n K : ℕ) : top sc n ≤ top sc (n + K) := by rw [top_add]; exact le_max_left _ _

/-- The denominator after `K` more tokens: the old one rescaled to the new largest score, plus the new weights. -/
theorem den_add (n K : ℕ) :
    den sc (n + K) = wt (top sc n) (top sc (n + K)) * den sc n
      + ∑ k : Fin K, wt (sc (n + k.val)) (top sc (n + K)) := by
  have hle := top_le_top_add sc n K
  rw [den, Finset.sum_range_add, Finset.sum_range (fun k => wt (sc (n + k)) (top sc (n + K))), den,
    mul_sum (wt_nonneg _ _) (wt_ne_top hle)]
  refine congrArg (· + _) (Finset.sum_congr rfl fun t ht => ?_)
  rw [wt_mul_wt (le_top_of_lt sc (Finset.mem_range.mp ht)) hle]

/-- The numerator after `K` more tokens: the old one rescaled to the new largest score, plus the new terms. -/
theorem num_add (n K : ℕ) :
    num sc w d (n + K) = wt (top sc n) (top sc (n + K)) * num sc w d n
      + ∑ k : Fin K, wt (sc (n + k.val)) (top sc (n + K)) * w (n + k.val) * d (n + k.val) := by
  have hle := top_le_top_add sc n K
  rw [num, Finset.sum_range_add,
    Finset.sum_range (fun k => wt (sc (n + k)) (top sc (n + K)) * w (n + k) * d (n + k)), num,
    mul_sum (wt_nonneg _ _) (wt_ne_top hle)]
  refine congrArg (· + _) (Finset.sum_congr rfl fun t ht => ?_)
  rw [← mul_assoc, ← mul_assoc, wt_mul_wt (le_top_of_lt sc (Finset.mem_range.mp ht)) hle]

/-! ## The same three as sums over `Fin n` -/

/-- The largest score, over the tokens as an index type. -/
theorem top_eq_univ (n : ℕ) : top sc n = Finset.univ.sup fun k : Fin n => sc k.val := by
  have h := top_add sc 0 n
  simp only [zero_add, top_zero] at h
  rw [h]; exact max_eq_right bot_le

/-- The denominator, as a sum over the tokens as an index type. -/
theorem den_eq_univ (n : ℕ) : den sc n = ∑ k : Fin n, wt (sc k.val) (top sc n) := by
  rw [den, Finset.sum_range (fun t => wt (sc t) (top sc n))]

/-- The numerator, as a sum over the tokens as an index type. -/
theorem num_eq_univ (n : ℕ) : num sc w d n = ∑ k : Fin n, wt (sc k.val) (top sc n) * w k.val * d k.val := by
  rw [num, Finset.sum_range (fun t => wt (sc t) (top sc n) * w t * d t)]

/-! ## How a program writes the largest element -/

/-- The largest element of a finite family, as the maximum reduction folds it from minus infinity. -/
theorem fold_max_eq_sup {K : ℕ} (f : Fin K → EReal) :
    Finset.univ.fold max ⊥ f = Finset.univ.sup f := rfl

/-- The 32-bit pattern of minus infinity denotes minus infinity. -/
theorem ofBits_neg_inf : Ideal.ofBits .f32 0xFF800000#32 = ⊥ := by
  simp [Ideal.ofBits, Ideal.ieee]

end Cert.Online

end
-- ==== Proof.Steps.lean ====
/-
  What one grid point of the kernel leaves in its three carried scratch arrays and in its output block, as the values the
  body stores, over the point's input blocks and what the point before left. A point whose number is a multiple of 8
  (the first block of a batch row) starts from the reset values; every other point continues; a point whose number is 7
  modulo 8 (the last block of the row) also stores the output block.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]

/-! ## One block's update of the three running arrays

`q`, `r` are the latent and rope queries of the batch row, `cd`, `s`, `k` the block's codes, scales and rope keys. -/

section Update
variable (q : Vec F S1x32x512 .bf16) (r : Vec F S1x32x64 .bf16) (cd : Vec F S1x2048x512 .fp8e4m3)
  (s : Vec F S1x1x2048 .f32) (k : Vec F S1x2048x64 .bf16)

/-- The running maximum after the block, from the running maximum `mx` before it. -/
def updM (mx : Vec F S32x1 .f32) : Vec F S32x1 .f32 := k0_pay13 cd s q r k mx

/-- The running denominator after the block, from the maximum `mx` and the denominator `l` before it. -/
def updL (mx l : Vec F S32x1 .f32) : Vec F S32x1 .f32 := k0_pay1 (k0_pay11 cd s q r k mx) (k0_pay12 cd s q r k mx) l

/-- The running numerator after the block, from the maximum `mx` and the numerator `a` before it. -/
def updA (mx : Vec F S32x1 .f32) (a : Vec F S32x512 .f32) : Vec F S32x512 .f32 :=
  k0_pay2 (k0_pay7 cd) (k0_pay8 s) (k0_pay11 cd s q r k mx) (k0_pay12 cd s q r k mx) a

end Update

variable (m : (ℓ : Loc nD τ sig) → Buf (Elt F) ℓ) (c : Dev nD)

/-- The running maximum after point `n`. -/
def mAt (n : ℕ) (h : n < cfg0.N) : Vec F S32x1 .f32 := (outsAt0 m c n h).2.1
/-- The running denominator after point `n`. -/
def lAt (n : ℕ) (h : n < cfg0.N) : Vec F S32x1 .f32 := (outsAt0 m c n h).2.2.1
/-- The running numerator after point `n`. -/
def aAt (n : ℕ) (h : n < cfg0.N) : Vec F S32x512 .f32 := (outsAt0 m c n h).2.2.2

variable (t : Fin cfg0.N)

/-- The point before a grid point is a grid point. -/
theorem pred_lt : t.val - 1 < cfg0.N := Nat.lt_of_le_of_lt (Nat.sub_le _ _) t.isLt

/-! ## The first block of a batch row -/

/-- The maximum after a row's first block is updated from the initial one. -/
theorem mAt_first (h0 : t.val % 8 = 0) :
    mAt m c t.val t.isLt
      = updM (iblk m c 0 t) (iblk m c 1 t) (iblk m c 2 t) (iblk m c 3 t) (iblk m c 4 t) k0_pay4 := by
  unfold mAt updM
  rw [outsAt0_A m c t h0 (by omega)]; frame_out

/-- The denominator after a row's first block is updated from the initial one. -/
theorem lAt_first (h0 : t.val % 8 = 0) :
    lAt m c t.val t.isLt
      = updL (iblk m c 0 t) (iblk m c 1 t) (iblk m c 2 t) (iblk m c 3 t) (iblk m c 4 t) k0_pay4 k0_pay5 := by
  unfold lAt updL
  rw [outsAt0_A m c t h0 (by omega)]; frame_out

/-- The numerator after a row's first block is updated from the initial one. -/
theorem aAt_first (h0 : t.val % 8 = 0) :
    aAt m c t.val t.isLt
      = updA (iblk m c 0 t) (iblk m c 1 t) (iblk m c 2 t) (iblk m c 3 t) (iblk m c 4 t) k0_pay4 k0_pay6 := by
  unfold aAt updA
  rw [outsAt0_A m c t h0 (by omega)]; frame_out

/-! ## Every later block of the row -/

/-- The maximum after a later block is updated from the one the previous point left. -/
theorem mAt_next (h0 : ¬t.val % 8 = 0) :
    mAt m c t.val t.isLt
      = updM (iblk m c 0 t) (iblk m c 1 t) (iblk m c 2 t) (iblk m c 3 t) (iblk m c 4 t)
          (mAt m c (t.val - 1) (pred_lt t)) := by
  unfold mAt updM
  by_cases h1 : t.val % 8 = 7
  · rw [outsAt0_C m c t h0 h1]; frame_out; simp only [read_unread_whole]
  · rw [outsAt0_B m c t h0 h1]; frame_out; simp only [read_unread_whole]

/-- The denominator after a later block is updated from the one the previous point left. -/
theorem lAt_next (h0 : ¬t.val % 8 = 0) :
    lAt m c t.val t.isLt
      = updL (iblk m c 0 t) (iblk m c 1 t) (iblk m c 2 t) (iblk m c 3 t) (iblk m c 4 t)
          (mAt m c (t.val - 1) (pred_lt t)) (lAt m c (t.val - 1) (pred_lt t)) := by
  unfold lAt mAt updL
  by_cases h1 : t.val % 8 = 7
  · rw [outsAt0_C m c t h0 h1]; frame_out; simp only [read_unread_whole]
  · rw [outsAt0_B m c t h0 h1]; frame_out; simp only [read_unread_whole]

/-- The numerator after a later block is updated from the one the previous point left. -/
theorem aAt_next (h0 : ¬t.val % 8 = 0) :
    aAt m c t.val t.isLt
      = updA (iblk m c 0 t) (iblk m c 1 t) (iblk m c 2 t) (iblk m c 3 t) (iblk m c 4 t)
          (mAt m c (t.val - 1) (pred_lt t)) (aAt m c (t.val - 1) (pred_lt t)) := by
  unfold aAt mAt updA
  by_cases h1 : t.val % 8 = 7
  · rw [outsAt0_C m c t h0 h1]; frame_out; simp only [read_unread_whole]
  · rw [outsAt0_B m c t h0 h1]; frame_out; simp only [read_unread_whole]

/-! ## The output block -/

/-- The last block of a row stores the numerator divided by the denominator, both as the point leaves them. -/
theorem out_last (h1 : t.val % 8 = 7) :
    (outsAt0 m c t.val t.isLt).1 = k0_pay3 (aAt m c t.val t.isLt) (lAt m c t.val t.isLt) := by
  have h0 : ¬t.val % 8 = 0 := by omega
  rw [aAt_next m c t h0, lAt_next m c t h0]
  unfold aAt lAt mAt updA updL
  rw [outsAt0_C m c t h0 h1]; frame_out; simp only [read_unread_whole]

end Cert.KernelIdeal.Steps

end
-- ==== Proof.Block.lean ====
/-
  The kernel's stored values read at an index, in the extended reals: the scores of one block of tokens, and the three
  running arrays after the block as one step of the prefix softmax (module `Online`).
-/
module

public import proofs.«01_k».proof.Proof.Online
public import proofs.«01_k».proof.Proof.Steps
public import Idealize.ShloMosaic.Lib.Pointwise

@[expose] public section

set_option maxRecDepth 16384

noncomputable section

namespace Cert.KernelIdeal.Block

open Cert.KernelIdeal Cert.KernelIdeal.Gen Cert.KernelIdeal.Steps Cert.Online Idealize.ShloMosaic

variable (q : Vec Ideal S1x32x512 .bf16) (r : Vec Ideal S1x32x64 .bf16) (cd : Vec Ideal S1x2048x512 .fp8e4m3)
  (s : Vec Ideal S1x1x2048 .f32) (k : Vec Ideal S1x2048x64 .bf16)

/-- The score of head `h` at the block's token `κ`. -/
def blkScore (h : Fin 32) (κ : Fin 2048) : EReal :=
  ((∑ j : Fin 512, q (ix3 0 h j) * cd (ix3 0 κ j)) * s (ix3 0 0 κ) + ∑ j : Fin 64, r (ix3 0 h j) * k (ix3 0 κ j))
    * Ideal.ofBits .f32 0x3D93CD3A#32

/-- The kernel's score array holds the scores of the block. -/
theorem pay9_apply (h : Fin 32) (κ : Fin 2048) :
    k0_pay9 (F := Ideal) cd s q r k (ix2 h κ) = blkScore q r cd s k h κ := by
  pointwise [k0_pay9, k0_pay7, k0_pay8, blkScore]

/-- The running maximum starts at minus infinity. -/
theorem pay4_apply (h : Fin 32) : k0_pay4 (F := Ideal) (ix2 h 0) = ⊥ := by
  pointwise [k0_pay4]
  exact ofBits_neg_inf

/-- The running denominator starts at zero. -/
theorem pay5_apply (h : Fin 32) : k0_pay5 (F := Ideal) (ix2 h 0) = 0 := by
  pointwise [k0_pay5]

/-- The running numerator starts at zero. -/
theorem pay6_apply (h : Fin 32) (e : Fin 512) : k0_pay6 (F := Ideal) (ix2 h e) = 0 := by
  pointwise [k0_pay6]

/-- The new maximum is the larger of the old one and the block's largest score. -/
theorem pay10_apply (mx : Vec Ideal S32x1 .f32) (h : Fin 32) :
    k0_pay10 (F := Ideal) cd s q r k mx (ix2 h 0)
      = max (mx (ix2 h 0)) (Finset.univ.sup fun κ => blkScore q r cd s k h κ) := by
  pointwise [k0_pay10]
  simp only [pay9_apply]
  rw [ofBits_neg_inf, fold_max_eq_sup]

/-- The output block is the numerator divided by the denominator of its head. -/
theorem pay3_apply (a : Vec Ideal S32x512 .f32) (l : Vec Ideal S32x1 .f32) (h : Fin 32) (e : Fin 512) :
    k0_pay3 (F := Ideal) a l (ix3 0 h e) = Ideal.div (a (ix2 h e)) (l (ix2 h 0)) := by
  pointwise [k0_pay3]

/-- The running maximum after the block. -/
theorem updM_apply (mx : Vec Ideal S32x1 .f32) (h : Fin 32) :
    updM (F := Ideal) q r cd s k mx (ix2 h 0) = max (mx (ix2 h 0)) (Finset.univ.sup fun κ => blkScore q r cd s k h κ) := by
  pointwise [updM, k0_pay13]
  exact pay10_apply q r cd s k mx h

/-- The running denominator after the block: the old one rescaled to the new maximum, plus the block's weights. -/
theorem updL_apply (mx l : Vec Ideal S32x1 .f32) (h : Fin 32) :
    updL (F := Ideal) q r cd s k mx l (ix2 h 0)
      = wt (mx (ix2 h 0)) (updM (F := Ideal) q r cd s k mx (ix2 h 0)) * l (ix2 h 0)
        + ∑ κ : Fin 2048, wt (blkScore q r cd s k h κ) (updM (F := Ideal) q r cd s k mx (ix2 h 0)) := by
  rw [updM_apply]
  pointwise [updL, k0_pay1, k0_pay11, k0_pay12]
  simp only [pay9_apply, pay10_apply, wt]

/-- The running numerator after the block: the old one rescaled to the new maximum, plus the block's weighted codes. -/
theorem updA_apply (mx : Vec Ideal S32x1 .f32) (a : Vec Ideal S32x512 .f32) (h : Fin 32) (e : Fin 512) :
    updA (F := Ideal) q r cd s k mx a (ix2 h e)
      = wt (mx (ix2 h 0)) (updM (F := Ideal) q r cd s k mx (ix2 h 0)) * a (ix2 h e)
        + ∑ κ : Fin 2048, wt (blkScore q r cd s k h κ) (updM (F := Ideal) q r cd s k mx (ix2 h 0))
            * s (ix3 0 0 κ) * cd (ix3 0 κ e) := by
  rw [updM_apply]
  pointwise [updA, k0_pay2, k0_pay7, k0_pay8, k0_pay11, k0_pay12]
  simp only [pay9_apply, pay10_apply, wt]

end Cert.KernelIdeal.Block

end
-- ==== Proof.Spec.lean ====
/-
  What the layer computes, over the five argument arrays as extended reals: single-query attention over a cache of
  16384 tokens whose latent vectors are stored as codes with one scale per token. Both programs' results are this.
-/
module

public import proofs.«01_k».proof.Proof.Online
public import Idealize.ShloMosaic.Lib.Pointwise

@[expose] public section

noncomputable section

namespace Cert.Spec

open Cert.Online Idealize.ShloMosaic

/-- The five arguments: latent queries (32 heads of 512 lanes in one row of 16384), rope queries, codes, scales, rope keys. -/
structure Args where
  x : (⟨3, ![8, 1, 16384]⟩ : Shape).Idx → EReal
  qr : (⟨4, ![8, 1, 32, 64]⟩ : Shape).Idx → EReal
  cd : (⟨3, ![8, 16384, 512]⟩ : Shape).Idx → EReal
  s : (⟨2, ![8, 16384]⟩ : Shape).Idx → EReal
  kr : (⟨3, ![8, 16384, 64]⟩ : Shape).Idx → EReal

/-- A natural number as a token of the cache (only numbers below 16384 are ever meant). -/
def tok (t : ℕ) : Fin 16384 := ⟨t % 16384, Nat.mod_lt _ (by decide)⟩

/-- The number of a token names that token. -/
theorem tok_val (t : Fin 16384) : tok t.val = t := Fin.ext (Nat.mod_eq_of_lt t.isLt)

/-- Lane `j` of head `h` in the row of all heads. -/
def lane (h : Fin 32) (j : Fin 512) : Fin 16384 := ⟨h.val * 512 + j.val, by omega⟩

variable (A : Args) (b : Fin 8)

/-- The attention score of head `h` at token `t`: the latent product scaled by the token's scale, plus the rope product,
    times the softmax constant. -/
def score (h : Fin 32) (t : ℕ) : EReal :=
  ((∑ j : Fin 512, A.x (ix3 b 0 (lane h j)) * A.cd (ix3 b (tok t) j)) * A.s (ix2 b (tok t))
      + ∑ j : Fin 64, A.qr (ix4 b 0 h j) * A.kr (ix3 b (tok t) j))
    * Ideal.ofBits .f32 0x3D93CD3A#32

/-- The scale of token `t`. -/
def scl (t : ℕ) : EReal := A.s (ix2 b (tok t))

/-- Lane `e` of token `t`'s code. -/
def code (e : Fin 512) (t : ℕ) : EReal := A.cd (ix3 b (tok t) e)

/-- The attention output: the softmax-weighted mean over all 16384 tokens of scale times code. -/
def attn (h : Fin 32) (e : Fin 512) : EReal :=
  Ideal.div (num (score A b h) (scl A b) (code A b e) 16384) (den (score A b h) 16384)

/-- The layer's result as an array of 8 rows, 32 heads and 512 lanes. -/
def result : (⟨3, ![8, 32, 512]⟩ : Shape).Idx → EReal := fun i => attn A (i 0) (i 1) (i 2)

end Cert.Spec

end
-- ==== Proof.Reads.lean ====
/-
  The blocks that a grid point of the kernel reads, as reads of the argument arrays: point `t` works on batch row
  `t / 8` and on tokens `2048 * (t % 8)` up to `2048 * (t % 8) + 2047`.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Reads

open Cert.KernelIdeal Cert.KernelIdeal.Gen Cert.Spec Idealize.ShloMosaic Idealize.ShloMosaic.TcCoe Idealize.SL.Sem

variable (m : (ℓ : Loc nD τ sig) → Buf (Elt Ideal) ℓ) (c : Dev nD)

/-- The kernel's five argument arrays on device `c`. -/
def args : Args where
  x := m ((c : Thread nD τ).loc main_arg0)
  qr := m ((c : Thread nD τ).loc main_arg1)
  cd := m ((c : Thread nD τ).loc main_arg2)
  s := m ((c : Thread nD τ).loc main_arg3)
  kr := m ((c : Thread nD τ).loc main_arg4)

/-- Where each window's block lies, at every grid point. -/
theorem idx : ∀ t : Fin cfg0.N,
    win0_0.index t = ![t.val / 8, 0, 0] ∧ win0_1.index t = ![t.val / 8, 0, 0]
      ∧ win0_2.index t = ![t.val / 8, t.val % 8, 0] ∧ win0_3.index t = ![t.val / 8, 0, t.val % 8]
      ∧ win0_4.index t = ![t.val / 8, t.val % 8, 0] ∧ win0_5.index t = ![t.val / 8, 0, 0] :=
  (by decide +kernel : ∀ t : Fin grid0.N,
    win0_0.index t = ![t.val / 8, 0, 0] ∧ win0_1.index t = ![t.val / 8, 0, 0]
      ∧ win0_2.index t = ![t.val / 8, t.val % 8, 0] ∧ win0_3.index t = ![t.val / 8, 0, t.val % 8]
      ∧ win0_4.index t = ![t.val / 8, t.val % 8, 0] ∧ win0_5.index t = ![t.val / 8, 0, 0])

/-- The grid has 64 points. -/
theorem point_lt (t : Fin cfg0.N) : t.val < 64 := lt_of_lt_of_eq t.isLt N_0

/-- The batch row of a grid point. -/
def row (t : Fin cfg0.N) : Fin 8 := ⟨t.val / 8, by have := point_lt t; omega⟩

/-- The first token of a grid point's block. -/
def start (t : Fin cfg0.N) : ℕ := 2048 * (t.val % 8)

variable (t : Fin cfg0.N)

/-- Token `κ` of a grid point's block, as a token of the cache. -/
theorem tok_start (κ : Fin 2048) : tok (start t + κ.val) = ⟨2048 * (t.val % 8) + κ.val, by omega⟩ :=
  Fin.ext (Nat.mod_eq_of_lt (by unfold start; omega))

/-- The block of latent queries is the grid point's row of them. -/
theorem read_q (h : Fin 32) (j : Fin 512) : iblk m c 0 t (ix3 0 h j) = (args m c).x (ix3 (row t) 0 (lane h j)) := by
  have hp := point_lt t
  unfold args row lane
  dsimp only
  blk_ext! [iblk, V, idx t]

/-- The block of rope queries is the grid point's row of them. -/
theorem read_r (h : Fin 32) (j : Fin 64) : iblk m c 1 t (ix3 0 h j) = (args m c).qr (ix4 (row t) 0 h j) := by
  have hp := point_lt t
  unfold args row
  dsimp only
  blk_ext! [iblk, V, idx t]

/-- The block of codes holds the codes of the grid point's tokens. -/
theorem read_cd (κ : Fin 2048) (e : Fin 512) : iblk m c 2 t (ix3 0 κ e) = (args m c).cd (ix3 (row t) (tok (start t + κ.val)) e) := by
  have hp := point_lt t
  rw [tok_start]
  unfold args row
  dsimp only
  blk_ext! [iblk, V, idx t]

/-- The block of scales holds the scales of the grid point's tokens. -/
theorem read_s (κ : Fin 2048) : iblk m c 3 t (ix3 0 0 κ) = (args m c).s (ix2 (row t) (tok (start t + κ.val))) := by
  have hp := point_lt t
  rw [tok_start]
  unfold args row
  dsimp only
  blk_ext! [iblk, V, idx t]

/-- The block of rope keys holds the rope keys of the grid point's tokens. -/
theorem read_kr (κ : Fin 2048) (j : Fin 64) : iblk m c 4 t (ix3 0 κ j) = (args m c).kr (ix3 (row t) (tok (start t + κ.val)) j) := by
  have hp := point_lt t
  rw [tok_start]
  unfold args row
  dsimp only
  blk_ext! [iblk, V, idx t]

end Cert.KernelIdeal.Reads

end
-- ==== Proof.KernelValue.lean ====
/-
  The kernel's result array. After every grid point the three carried arrays hold the maximum, the denominator and the
  numerator of the prefix softmax over the tokens that the row has seen so far (`carried`, by induction over the points),
  so what the row's last point writes is the attention output of the row, and the result array is the attention output.
-/
module

public import proofs.«01_k».proof.Proof.Block
public import proofs.«01_k».proof.Proof.Reads

@[expose] public section

set_option maxRecDepth 16384

noncomputable section

namespace Cert.KernelIdeal.Result

open Cert.KernelIdeal Cert.KernelIdeal.Gen Cert.KernelIdeal.Steps Cert.KernelIdeal.Block Cert.KernelIdeal.Reads
open Cert.Online Cert.Spec Idealize.ShloMosaic Idealize.ShloMosaic.TcCoe Idealize.SL.Sem

variable (m : (ℓ : Loc nD τ sig) → Buf (Elt Ideal) ℓ) (ρ : Dev nD → PrngReg) (c : Dev nD)

/-- The block's scores are the layer's scores at the block's tokens. -/
theorem blkScore_eq (t : Fin cfg0.N) (h : Fin 32) (κ : Fin 2048) :
    blkScore (iblk m c 0 t) (iblk m c 1 t) (iblk m c 2 t) (iblk m c 3 t) (iblk m c 4 t) h κ
      = score (args m c) (row t) h (start t + κ.val) := by
  unfold blkScore score
  simp only [read_q, read_r, read_cd, read_s, read_kr]

/-- The carried arrays hold the prefix softmax of batch row `b` over the first `n` tokens. -/
structure Carries (b : Fin 8) (n : ℕ) (mx l : Vec Ideal S32x1 .f32) (a : Vec Ideal S32x512 .f32) : Prop where
  hm : ∀ h : Fin 32, mx (ix2 h 0) = top (score (args m c) b h) n
  hl : ∀ h : Fin 32, l (ix2 h 0) = den (score (args m c) b h) n
  ha : ∀ (h : Fin 32) (e : Fin 512), a (ix2 h e) = num (score (args m c) b h) (scl (args m c) b) (code (args m c) b e) n

/-- The reset values are the prefix softmax of no token. -/
theorem carries_reset (b : Fin 8) : Carries m c b 0 (k0_pay4 (F := Ideal)) (k0_pay5 (F := Ideal)) (k0_pay6 (F := Ideal)) where
  hm h := by rw [pay4_apply, top_zero]
  hl h := by rw [pay5_apply, den_zero]
  ha h e := by rw [pay6_apply, num_zero]

/-- One point's update appends its block's 2048 tokens to the prefix. -/
theorem carries_step (t : Fin cfg0.N) (mx l : Vec Ideal S32x1 .f32) (a : Vec Ideal S32x512 .f32)
    (H : Carries m c (row t) (start t) mx l a) :
    Carries m c (row t) (start t + 2048)
      (updM (iblk m c 0 t) (iblk m c 1 t) (iblk m c 2 t) (iblk m c 3 t) (iblk m c 4 t) mx)
      (updL (iblk m c 0 t) (iblk m c 1 t) (iblk m c 2 t) (iblk m c 3 t) (iblk m c 4 t) mx l)
      (updA (iblk m c 0 t) (iblk m c 1 t) (iblk m c 2 t) (iblk m c 3 t) (iblk m c 4 t) mx a) := by
  have hM : ∀ h : Fin 32,
      updM (iblk m c 0 t) (iblk m c 1 t) (iblk m c 2 t) (iblk m c 3 t) (iblk m c 4 t) mx (ix2 h 0)
        = top (score (args m c) (row t) h) (start t + 2048) := fun h => by
    rw [updM_apply, H.hm, top_add]
    simp only [blkScore_eq]
  refine ⟨hM, fun h => ?_, fun h e => ?_⟩
  · rw [updL_apply, hM, H.hm, H.hl, den_add]
    simp only [blkScore_eq]
  · rw [updA_apply, hM, H.hm, H.ha, num_add]
    simp only [blkScore_eq, read_s, read_cd, scl, code]

/-- After point `n`, the carried arrays hold the prefix softmax of the point's row up to the end of the point's block. -/
theorem carried (n : ℕ) (hn : n < cfg0.N) :
    Carries m c (row ⟨n, hn⟩) (start ⟨n, hn⟩ + 2048) (mAt m c n hn) (lAt m c n hn) (aAt m c n hn) := by
  induction n with
  | zero =>
    have e : ((⟨0, hn⟩ : Fin cfg0.N)).val % 8 = 0 := rfl
    have H := carries_step m c ⟨0, hn⟩ _ _ _ (carries_reset m c _)
    rw [← mAt_first m c ⟨0, hn⟩ e, ← lAt_first m c ⟨0, hn⟩ e, ← aAt_first m c ⟨0, hn⟩ e] at H
    exact H
  | succ n ih =>
    by_cases e : ((⟨n + 1, hn⟩ : Fin cfg0.N)).val % 8 = 0
    · have s0 : start ⟨n + 1, hn⟩ = 0 := by unfold start; rw [e]
      have H := carries_step m c ⟨n + 1, hn⟩ _ _ _ (s0 ▸ carries_reset m c _)
      rw [← mAt_first m c ⟨n + 1, hn⟩ e, ← lAt_first m c ⟨n + 1, hn⟩ e, ← aAt_first m c ⟨n + 1, hn⟩ e] at H
      exact H
    · have hn' : n < cfg0.N := Nat.lt_of_succ_lt hn
      have e' : ¬(n + 1) % 8 = 0 := e
      have hr : row ⟨n, hn'⟩ = row ⟨n + 1, hn⟩ := Fin.ext (by show n / 8 = (n + 1) / 8; omega)
      have hs : start ⟨n, hn'⟩ + 2048 = start ⟨n + 1, hn⟩ := by
        show 2048 * (n % 8) + 2048 = 2048 * ((n + 1) % 8); omega
      have P := ih hn'
      rw [hr, hs] at P
      show Carries m c (row ⟨n + 1, hn⟩) (start ⟨n + 1, hn⟩ + 2048) (mAt m c (⟨n + 1, hn⟩ : Fin cfg0.N).val (Fin.isLt _))
        (lAt m c (⟨n + 1, hn⟩ : Fin cfg0.N).val (Fin.isLt _)) (aAt m c (⟨n + 1, hn⟩ : Fin cfg0.N).val (Fin.isLt _))
      rw [mAt_next m c ⟨n + 1, hn⟩ e, lAt_next m c ⟨n + 1, hn⟩ e, aAt_next m c ⟨n + 1, hn⟩ e]
      exact carries_step m c ⟨n + 1, hn⟩ _ _ _ P

/-- What the last point of a row leaves in the output block is the row's attention output. -/
theorem out_apply (t : Fin cfg0.N) (h1 : t.val % 8 = 7) (h : Fin 32) (e : Fin 512) :
    (outsAt0 m c t.val t.isLt).1 (ix3 0 h e) = attn (args m c) (row t) h e := by
  have H := carried m c t.val t.isLt
  have hs : start ⟨t.val, t.isLt⟩ + 2048 = 16384 := by
    show 2048 * (t.val % 8) + 2048 = 16384; omega
  rw [hs] at H
  rw [out_last m c t h1, pay3_apply, H.ha, H.hl, attn]

/-- The output block of point `t` is row `t / 8` of the result array. -/
theorem emb_out (t : Fin cfg0.N) (h : Fin 32) (e : Fin 512) :
    (win0_5.blk t).view.emb (ix3 0 h e) = ix3 (row t) h e := by
  have hp := point_lt t
  unfold row
  blk_ext [idx t]

/-- The kernel's result array after the run is the attention output of its arguments. -/
theorem final : (dats m 0 c).arrAt 5 cfg0.N = result (args m c) := by
  refine (dats m 0 c).arrAt_eq_of_covers 5 _ (by decide +kernel) fun t hf y => ?_
  blk_simp
  rw [after0_5]
  revert y
  intro (y : S1x32x512.Idx)
  have h1 : t.val % 8 = 7 := (flush0_5 t).mp hf
  idx_vars y
  obtain rfl : y0 = 0 := Subsingleton.elim _ _
  exact (out_apply m c t h1 y1 y2).trans (congrArg (result (args m c)) (emb_out t y1 y2)).symm

end Cert.KernelIdeal.Result

end
-- ==== Proof.RefValue.lean ====
/-
  The reference's result array: its one gridless call reads the five whole arrays and stores the softmax attention
  output, which at every index is `Spec.attn`.
-/
module

public import proofs.«01_k».proof.Proof.Spec
public import proofs.«01_k».proof.Proof.Gen.ReferenceIdeal.Value
public import Idealize.ShloMosaic.Lib.Pipeline.ValueKit
public import Idealize.ShloMosaic.Lib.Tactic.WordOmega

@[expose] public section

set_option maxRecDepth 16384

noncomputable section

namespace Cert.ReferenceIdeal.Result

open Cert.ReferenceIdeal Cert.ReferenceIdeal.Gen
open Cert.Online Cert.Spec Idealize.ShloMosaic Idealize.ShloMosaic.TcCoe Idealize.SL.Sem

variable (m : (ℓ : Loc nD τ sig) → Buf (Elt Ideal) ℓ) (c : Dev nD)

/-- The reference's five argument arrays on device `c`. -/
def args : Args where
  x := m ((c : Thread nD τ).loc main_arg0)
  qr := m ((c : Thread nD τ).loc main_arg1)
  cd := m ((c : Thread nD τ).loc main_arg2)
  s := m ((c : Thread nD τ).loc main_arg3)
  kr := m ((c : Thread nD τ).loc main_arg4)

/-- The one point's blocks are the whole arrays. -/
theorem idx : ∀ t : Fin cfg0.N,
    win0_0.index t = ![0, 0, 0] ∧ win0_1.index t = ![0, 0, 0] ∧ win0_2.index t = ![0, 0, 0]
      ∧ win0_3.index t = ![0, 0, 0] ∧ win0_4.index t = ![0, 0, 0] ∧ win0_5.index t = ![0, 0, 0] :=
  (by decide +kernel : ∀ t : Fin grid0.N,
    win0_0.index t = ![0, 0, 0] ∧ win0_1.index t = ![0, 0, 0] ∧ win0_2.index t = ![0, 0, 0]
      ∧ win0_3.index t = ![0, 0, 0] ∧ win0_4.index t = ![0, 0, 0] ∧ win0_5.index t = ![0, 0, 0])

variable (t : Fin cfg0.N)

/-- The reference reads all latent queries. -/
theorem read_q (b : Fin 8) (h : Fin 32) (j : Fin 512) : iblk m c 0 t (ix3 b h j) = (args m c).x (ix3 b 0 (lane h j)) := by
  unfold args lane
  dsimp only
  blk_ext! [iblk, V, idx t]

/-- The reference reads all rope queries. -/
theorem read_r (b : Fin 8) (h : Fin 32) (j : Fin 64) : iblk m c 1 t (ix3 b h j) = (args m c).qr (ix4 b 0 h j) := by
  unfold args
  dsimp only
  blk_ext! [iblk, V, idx t]

/-- The reference reads all codes. -/
theorem read_cd (b : Fin 8) (κ : Fin 16384) (e : Fin 512) : iblk m c 2 t (ix3 b κ e) = (args m c).cd (ix3 b κ e) := by
  unfold args
  dsimp only
  blk_ext! [iblk, V, idx t]

/-- The reference reads all scales. -/
theorem read_s (b : Fin 8) (κ : Fin 16384) : iblk m c 3 t (ix3 b 0 κ) = (args m c).s (ix2 b κ) := by
  unfold args
  dsimp only
  blk_ext! [iblk, V, idx t]

/-- The reference reads all rope keys. -/
theorem read_kr (b : Fin 8) (κ : Fin 16384) (j : Fin 64) : iblk m c 4 t (ix3 b κ j) = (args m c).kr (ix3 b κ j) := by
  unfold args
  dsimp only
  blk_ext! [iblk, V, idx t]

/-- The padding mask of the reference keeps every token: each token's number is below the cache's length. -/
theorem mask_true (κ : Fin 16384) : IntOp.cmpi .slt (BitVec.ofNat 32 κ.val) 16384#32 = 1#1 := by
  have h := κ.isLt
  word_omega

section Payload
variable (q : Vec Ideal S8x32x512 .bf16) (r : Vec Ideal S8x32x64 .bf16) (k : Vec Ideal S8x16384x64 .bf16)
  (s : Vec Ideal S8x1x16384 .f32) (cd : Vec Ideal S8x16384x512 .fp8e4m3)

/-- The score of row `b`, head `h` at token `κ`, over the arrays as the call reads them. -/
def rowScore (b : Fin 8) (h : Fin 32) (κ : Fin 16384) : EReal :=
  ((∑ j : Fin 512, q (ix3 b h j) * cd (ix3 b κ j)) * s (ix3 b 0 κ) + ∑ j : Fin 64, r (ix3 b h j) * k (ix3 b κ j))
    * Ideal.ofBits .f32 0x3D93CD3A#32

/-- What the call stores, at an index: the quotient of the two softmax sums over all tokens. -/
theorem pay_apply (b : Fin 8) (h : Fin 32) (e : Fin 512) :
    k0_pay1 (F := Ideal) q r k s cd (ix3 b h e)
      = Ideal.div
          (∑ κ, wt (rowScore q r k s cd b h κ) (Finset.univ.sup (rowScore q r k s cd b h)) * s (ix3 b 0 κ) * cd (ix3 b κ e))
          (∑ κ, wt (rowScore q r k s cd b h κ) (Finset.univ.sup (rowScore q r k s cd b h))) := by
  pointwise [k0_pay1]
  simp only [mask_true, ValueIdx.select_one, ofBits_neg_inf, fold_max_eq_sup]
  rfl

end Payload

/-- The scores that the call computes are the layer's. -/
theorem rowScore_eq (b : Fin 8) (h : Fin 32) (κ : Fin 16384) :
    rowScore (iblk m c 0 t) (iblk m c 1 t) (iblk m c 4 t) (iblk m c 3 t) (iblk m c 2 t) b h κ
      = score (args m c) b h κ.val := by
  unfold rowScore score
  simp only [read_q, read_r, read_cd, read_s, read_kr, tok_val]

/-- What the call stores, over the argument arrays, is the attention output. -/
theorem out_apply (b : Fin 8) (h : Fin 32) (e : Fin 512) :
    k0_pay1 (F := Ideal) (iblk m c 0 t) (iblk m c 1 t) (iblk m c 4 t) (iblk m c 3 t) (iblk m c 2 t) (ix3 b h e)
      = attn (args m c) b h e := by
  have hs : rowScore (iblk m c 0 t) (iblk m c 1 t) (iblk m c 4 t) (iblk m c 3 t) (iblk m c 2 t) b h
      = fun κ => score (args m c) b h κ.val := funext fun κ => rowScore_eq m c t b h κ
  rw [pay_apply, hs, attn, num_eq_univ, den_eq_univ, top_eq_univ]
  simp only [read_s, read_cd, scl, code, tok_val]

/-- The one output block is the whole result array. -/
theorem emb_out (b : Fin 8) (h : Fin 32) (e : Fin 512) : (win0_5.blk t).view.emb (ix3 b h e) = ix3 b h e := by
  blk_ext [idx t]

/-- The reference's result array after the run is the attention output of its arguments. -/
theorem final : (dats m 0 c).arrAt 5 cfg0.N = result (args m c) := by
  refine (dats m 0 c).arrAt_eq_of_covers 5 _ (by decide +kernel) fun t hf y => ?_
  blk_simp
  rw [after0_5]
  frame_out
  revert y
  intro (y : S8x32x512.Idx)
  idx_vars y
  exact (out_apply m c t y0 y1 y2).trans (congrArg (result (args m c)) (emb_out t y0 y1 y2)).symm

end Cert.ReferenceIdeal.Result

end
-- ==== Proof.Runs.lean ====
/-
  The two runs side by side: each program ends with the attention output of its arguments in its result array and leaves
  its arguments as they were.
-/
module

public import proofs.«01_k».proof.Proof.KernelValue
public import proofs.«01_k».proof.Proof.RefValue

@[expose] public section

set_option maxRecDepth 16384

noncomputable section

namespace Cert.Runs

open Idealize.ShloMosaic Idealize.ShloMosaic.TcCoe Idealize.SL.Sem

section Kernel
open Cert.KernelIdeal

/-- The kernel's run: the result array holds the attention output, the arguments are unchanged. -/
theorem kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Spec.result (Reads.args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (Result.final m c), (h c).2⟩) (Value.run_blocks m ρ)

end Kernel

section Reference
open Cert.ReferenceIdeal

/-- The reference's run: the result array holds the attention output, the arguments are unchanged. -/
theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Spec.result (Result.args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (Result.final m c), (h c).2⟩) (Value.run_blocks m ρ)

end Reference

end Cert.Runs

end
-- ==== Proof.lean ====
/-
  The proof of the five claims about the kernel. The three frames are the generated ones; the idealization rewrote no
  operation; and the kernel's and the reference's result arrays are the same attention output of the same arguments
  (module `Runs`), for every content of the argument arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Runs
public import Idealize.ShloMosaic.Adequacy
public import Idealize.ShloMosaic.Init

@[expose] public section

noncomputable section

namespace Cert.Proof

open Idealize.ShloMosaic Idealize.ShloMosaic.TcCoe Idealize.SL.Sem

/-- Memories that agree on the arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Result.args m' c = Cert.KernelIdeal.Reads.args m c := by
  obtain ⟨h0, h1, h2, h3, h4⟩ := h
  unfold Cert.ReferenceIdeal.Result.args Cert.KernelIdeal.Reads.args
  rw [h0, h1, h2, h3, h4]

/-- The kernel and the reference, read in the extended reals, compute the same result from the same arguments. -/
theorem algebraic [Cert.KernelIdeal.Facts] [Cert.ReferenceIdeal.Facts] : Cert.algebraic_KernelIdeal_ReferenceIdeal :=
  fun m ρ m' ρ' _ hag => ⟨fun c => Cert.Spec.result (Cert.KernelIdeal.Reads.args m c), Cert.Runs.kernel m ρ,
    (θ_run _ _ _).mono (fun _ h c => ⟨(h c).1.trans (congrArg Cert.Spec.result (args_eq m m' c (hag c))), (h c).2⟩)
      (Cert.Runs.reference m' ρ')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
